-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_wq_wk [hPre_finite_x_wq_wk : Cert.Pre_finite_x_wq_wk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_wq_wk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_wq_wk [hPre_finite_x_wq_wk : Cert.Pre_finite_x_wq_wk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_wq_wk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_wq_wk [hKernelIdeal : Cert.KernelIdeal.Facts] [hPre_finite_x_wq_wk : Cert.Pre_finite_x_wq_wk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_wq_wk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_wq_wk [hReferenceIdeal : Cert.ReferenceIdeal.Facts] [hPre_finite_x_wq_wk : Cert.Pre_finite_x_wq_wk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_wq_wk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_wq_wk [hKernelIdeal : Cert.KernelIdeal.Facts] [hReferenceIdeal : Cert.ReferenceIdeal.Facts] [hPre_finite_x_wq_wk : Cert.Pre_finite_x_wq_wk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_wq_wk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_wq_wk : Cert.Pre_finite_x_wq_wk.Facts),
    quiescent_Kernel (hKernel := hKernel)
    ∧ quiescent_KernelIdeal (hKernelIdeal := hKernelIdeal)
    ∧ quiescent_KernelIdeal_pre_finite_x_wq_wk (hKernelIdeal := hKernelIdeal) (hPre_finite_x_wq_wk := hPre_finite_x_wq_wk)
    ∧ quiescent_ReferenceIdeal (hReferenceIdeal := hReferenceIdeal)
    ∧ quiescent_ReferenceIdeal_pre_finite_x_wq_wk (hReferenceIdeal := hReferenceIdeal) (hPre_finite_x_wq_wk := hPre_finite_x_wq_wk)
    ∧ preserves_Kernel_KernelIdeal
    ∧ algebraic_KernelIdeal_ReferenceIdeal_pre_finite_x_wq_wk (hKernelIdeal := hKernelIdeal) (hReferenceIdeal := hReferenceIdeal) (hPre_finite_x_wq_wk := hPre_finite_x_wq_wk)
-- ==== Pre_finite_x_wq_wk.lean ====
abbrev S3x2048x1024 : Shape := ⟨3, ![3, 2048, 1024]⟩
abbrev S64x1024 : Shape := ⟨2, ![64, 1024]⟩
abbrev S_ : Shape := ⟨0, ![]⟩

class Facts : Prop where
  bcast_S_S3x2048x1024 : S_.BroadcastsInDim S3x2048x1024 (![] : Fin 0 → Fin S3x2048x1024.rank)
  reducesTo_S3x2048x1024_S_d0_1_2 : S3x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S3x2048x1024 .f32) (main_arg1 : FVec F S64x1024 .f32) (main_arg2 : FVec F S64x1024 .f32) (main_arg3 : FVec F S64x1024 .f32) : IVec S_ 1 :=
  let main_v0 : FVec F S3x2048x1024 .f32 := Host.absf main_arg0
  let main_cst : FVec F S_ .f32 := constant S_ .f32 0x7F800000#32
  let main_v1 : FVec F S3x2048x1024 .f32 := broadcastInDim S3x2048x1024 ![] bcast_S_S3x2048x1024 main_cst
  let main_v2 : IVec S3x2048x1024 1 := cmpf .olt main_v0 main_v1
  let main_c : IVec S_ 1 := constantI S_ 1 1#1
  let main_v3 : IVec S_ 1 := (fun x v => Host.reduce IntOp.andi x v reducesTo_S3x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  main_v13
-- ==== Kernel.lean ====
abbrev S3x2048x1024 : Shape := ⟨3, ![3, 2048, 1024]⟩
abbrev S64x1024 : Shape := ⟨2, ![64, 1024]⟩
abbrev S3x16x1024 : Shape := ⟨3, ![3, 16, 1024]⟩
abbrev S3x2048x64 : Shape := ⟨3, ![3, 2048, 64]⟩
abbrev S1x256x1024 : Shape := ⟨3, ![1, 256, 1024]⟩
abbrev S1x16x1024 : Shape := ⟨3, ![1, 16, 1024]⟩
abbrev S1x256x64 : Shape := ⟨3, ![1, 256, 64]⟩
abbrev S256x1024 : Shape := ⟨2, ![256, 1024]⟩
abbrev S16x1024 : Shape := ⟨2, ![16, 1024]⟩
abbrev S256x64 : Shape := ⟨2, ![256, 64]⟩
abbrev S16x64 : Shape := ⟨2, ![16, 64]⟩
abbrev S256x16 : Shape := ⟨2, ![256, 16]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S3x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S3x16x1024, .f32⟩
  | .hbm, ⟨5, _⟩ => ⟨S3x2048x64, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S1x256x64, .f32⟩
  | .local _ .vmem, ⟨8, _⟩ => ⟨S1x256x64, .f32⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x2048x1024 : Shape := ⟨3, ![3, 2048, 1024]⟩
abbrev S64x1024 : Shape := ⟨2, ![64, 1024]⟩
abbrev S1024x64 : Shape := ⟨2, ![1024, 64]⟩
abbrev S3x2048x64 : Shape := ⟨3, ![3, 2048, 64]⟩
abbrev S384 : Shape := ⟨1, ![384]⟩
abbrev S_ : Shape := ⟨0, ![]⟩
abbrev S2x512x16x64 : Shape := ⟨4, ![2, 512, 16, 64]⟩
abbrev S3x16x64 : Shape := ⟨3, ![3, 16, 64]⟩
abbrev S3x1x16x64 : Shape := ⟨4, ![3, 1, 16, 64]⟩
abbrev S3x128x16x64 : Shape := ⟨4, ![3, 128, 16, 64]⟩
abbrev S384x16x64 : Shape := ⟨3, ![384, 16, 64]⟩
abbrev S384x1 : Shape := ⟨2, ![384, 1]⟩
abbrev S384x2 : Shape := ⟨2, ![384, 2]⟩
abbrev S3x2048x2048 : Shape := ⟨3, ![3, 2048, 2048]⟩
abbrev S2048x2048 : Shape := ⟨2, ![2048, 2048]⟩
abbrev S3x2048 : Shape := ⟨2, ![3, 2048]⟩
abbrev S3x2048x1 : Shape := ⟨3, ![3, 2048, 1]⟩

abbrev nBuf : Space → Nat
  | .hbm => 114
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S1024x64, .f32⟩
  | .hbm, ⟨5, _⟩ => ⟨S3x2048x64, .f32⟩
  | .hbm, ⟨6, _⟩ => ⟨S1024x64, .f32⟩
  | .hbm, ⟨7, _⟩ => ⟨S3x2048x64, .f32⟩
  | .hbm, ⟨8, _⟩ => ⟨S1024x64, .f32⟩
  | .hbm, ⟨9, _⟩ => ⟨S3x2048x64, .f32⟩
  | .hbm, ⟨10, _⟩ => ⟨S384, .i32⟩
  | .hbm, ⟨11, _⟩ => ⟨S_, .f32⟩
  | .hbm, ⟨12, _⟩ => ⟨S2x512x16x64, .f32⟩
  | .hbm, ⟨13, _⟩ => ⟨S3x16x64, .f32⟩
  | .hbm, ⟨14, _⟩ => ⟨S3x1x16x64, .f32⟩
  | .hbm, ⟨15, _⟩ => ⟨S3x128x16x64, .f32⟩
  | .hbm, ⟨16, _⟩ => ⟨S384x16x64, .f32⟩
  | .hbm, ⟨17, _⟩ => ⟨S3x16x64, .f32⟩
  | .hbm, ⟨18, _⟩ => ⟨S3x1x16x64, .f32⟩
  | .hbm, ⟨19, _⟩ => ⟨S3x128x16x64, .f32⟩
  | .hbm, ⟨20, _⟩ => ⟨S384x16x64, .f32⟩
  | .hbm, ⟨21, _⟩ => ⟨S_, .i32⟩
  | .hbm, ⟨22, _⟩ => ⟨S384, .i32⟩
  | .hbm, ⟨23, _⟩ => ⟨S384, .i1⟩
  | .hbm, ⟨24, _⟩ => ⟨S_, .i32⟩
  | .hbm, ⟨25, _⟩ => ⟨S384, .i32⟩
  | .hbm, ⟨26, _⟩ => ⟨S384, .i32⟩
  | .hbm, ⟨27, _⟩ => ⟨S384, .i32⟩
  | .hbm, ⟨28, _⟩ => ⟨S_, .i32⟩
  | .hbm, ⟨29, _⟩ => ⟨S384, .i32⟩
  | .hbm, ⟨30, _⟩ => ⟨S384, .i32⟩
  | .hbm, ⟨31, _⟩ => ⟨S384x1, .i32⟩
  | .hbm, ⟨32, _⟩ => ⟨S384x1, .i32⟩
  | .hbm, ⟨33, _⟩ => ⟨S384x2, .i32⟩
  | .hbm, ⟨34, _⟩ => ⟨S2x512x16x64, .f32⟩
  | .hbm, ⟨35, _⟩ => ⟨S_, .i32⟩
  | .hbm, ⟨36, _⟩ => ⟨S384, .i32⟩
  | .hbm, ⟨37, _⟩ => ⟨S384, .i1⟩
  | .hbm, ⟨38, _⟩ => ⟨S_, .i32⟩
  | .hbm, ⟨39, _⟩ => ⟨S384, .i32⟩
  | .hbm, ⟨40, _⟩ => ⟨S384, .i32⟩
  | .hbm, ⟨41, _⟩ => ⟨S384, .i32⟩
  | .hbm, ⟨42, _⟩ => ⟨S_, .i32⟩
  | .hbm, ⟨43, _⟩ => ⟨S384, .i32⟩
  | .hbm, ⟨44, _⟩ => ⟨S384, .i32⟩
  | .hbm, ⟨45, _⟩ => ⟨S384x1, .i32⟩
  | .hbm, ⟨46, _⟩ => ⟨S384x1, .i32⟩
  | .hbm, ⟨47, _⟩ => ⟨S384x2, .i32⟩
  | .hbm, ⟨48, _⟩ => ⟨S2x512x16x64, .f32⟩
  | .hbm, ⟨49, _⟩ => ⟨S_, .i32⟩
  | .hbm, ⟨50, _⟩ => ⟨S384, .i32⟩
  | .hbm, ⟨51, _⟩ => ⟨S384, .i1⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S384, .i32⟩
  | .hbm, ⟨56, _⟩ => ⟨S_, .i32⟩
  | .hbm, ⟨57, _⟩ => ⟨S384, .i32⟩
  | .hbm, ⟨58, _⟩ => ⟨S384, .i32⟩
  | .hbm, ⟨59, _⟩ => ⟨S384x1, .i32⟩
  | .hbm, ⟨60, _⟩ => ⟨S384x1, .i32⟩
  | .hbm, ⟨61, _⟩ => ⟨S384x2, .i32⟩
  | .hbm, ⟨62, _⟩ => ⟨S384x16x64, .f32⟩
  | .hbm, ⟨63, _⟩ => ⟨S3x2048x64, .f32⟩
  | .hbm, ⟨64, _⟩ => ⟨S_, .i32⟩
  | .hbm, ⟨65, _⟩ => ⟨S384, .i32⟩
  | .hbm, ⟨66, _⟩ => ⟨S384, .i1⟩
  | .hbm, ⟨67, _⟩ => ⟨S_, .i32⟩
  | .hbm, ⟨68, _⟩ => ⟨S384, .i32⟩
  | .hbm, ⟨69, _⟩ => ⟨S384, .i32⟩
  | .hbm, ⟨70, _⟩ => ⟨S384, .i32⟩
  | .hbm, ⟨71, _⟩ => ⟨S_, .i32⟩
  | .hbm, ⟨72, _⟩ => ⟨S384, .i32⟩
  | .hbm, ⟨73, _⟩ => ⟨S384, .i32⟩
  | .hbm, ⟨74, _⟩ => ⟨S384x1, .i32⟩
  | .hbm, ⟨75, _⟩ => ⟨S384x1, .i32⟩
  | .hbm, ⟨76, _⟩ => ⟨S384x2, .i32⟩
  | .hbm, ⟨77, _⟩ => ⟨S384x16x64, .f32⟩
  | .hbm, ⟨78, _⟩ => ⟨S3x2048x64, .f32⟩
  | .hbm, ⟨79, _⟩ => ⟨S3x2048x2048, .f32⟩
  | .hbm, ⟨80, _⟩ => ⟨S_, .f32⟩
  | .hbm, ⟨81, _⟩ => ⟨S3x2048x2048, .f32⟩
  | .hbm, ⟨82, _⟩ => ⟨S3x2048x2048, .f32⟩
  | .hbm, ⟨83, _⟩ => ⟨S_, .i1⟩
  | .hbm, ⟨84, _⟩ => ⟨S2048x2048, .i1⟩
  | .hbm, ⟨85, _⟩ => ⟨S2048x2048, .i32⟩
  | .hbm, ⟨86, _⟩ => ⟨S_, .i32⟩
  | .hbm, ⟨87, _⟩ => ⟨S2048x2048, .i32⟩
  | .hbm, ⟨88, _⟩ => ⟨S2048x2048, .i32⟩
  | .hbm, ⟨89, _⟩ => ⟨S2048x2048, .i32⟩
  | .hbm, ⟨90, _⟩ => ⟨S2048x2048, .i1⟩
  | .hbm, ⟨91, _⟩ => ⟨S_, .i1⟩
  | .hbm, ⟨92, _⟩ => ⟨S2048x2048, .i1⟩
  | .hbm, ⟨93, _⟩ => ⟨S2048x2048, .i1⟩
  | .hbm, ⟨94, _⟩ => ⟨S_, .f32⟩
  | .hbm, ⟨95, _⟩ => ⟨S_, .f32⟩
  | .hbm, ⟨96, _⟩ => ⟨S3x2048x2048, .i1⟩
  | .hbm, ⟨97, _⟩ => ⟨S3x2048x2048, .f32⟩
  | .hbm, ⟨98, _⟩ => ⟨S3x2048x2048, .f32⟩
  | .hbm, ⟨99, _⟩ => ⟨S_, .f32⟩
  | .hbm, ⟨100, _⟩ => ⟨S3x2048, .f32⟩
  | .hbm, ⟨101, _⟩ => ⟨S_, .f32⟩
  | .hbm, ⟨102, _⟩ => ⟨S3x2048, .f32⟩
  | .hbm, ⟨103, _⟩ => ⟨S3x2048, .f32⟩
  | .hbm, ⟨104, _⟩ => ⟨S3x2048x1, .f32⟩
  | .hbm, ⟨105, _⟩ => ⟨S3x2048x2048, .f32⟩
  | .hbm, ⟨106, _⟩ => ⟨S3x2048x2048, .f32⟩
  | .hbm, ⟨107, _⟩ => ⟨S3x2048x2048, .f32⟩
  | .hbm, ⟨108, _⟩ => ⟨S_, .f32⟩
  | .hbm, ⟨109, _⟩ => ⟨S3x2048, .f32⟩
  | .hbm, ⟨110, _⟩ => ⟨S3x2048x1, .f32⟩
  | .hbm, ⟨111, _⟩ => ⟨S3x2048x2048, .f32⟩
  | .hbm, ⟨112, _⟩ => ⟨S3x2048x2048, .f32⟩
  | .hbm, ⟨113, _⟩ => ⟨S3x2048x64, .f32⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_c_12 : Ref sig .tc := ⟨.hbm, 83, rfl⟩
abbrev main_v65 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_0 : Ref sig .tc := ⟨.hbm, 91, rfl⟩
abbrev main_call0_v5 : Ref sig .tc := ⟨.hbm, 92, rfl⟩
abbrev main_v66 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]
-- ==== Proof.Counted.lean ====
/-
  A softmax over 2048 keys that repeat 16 keys with period 16, against the same softmax over the 16 keys with each one
  counted. Everything is over the extended reals; no program is named here.
-/
module

public import Idealize.ShloMosaic.PureOps.Ideal

@[expose] public section

noncomputable section

namespace Cert.Counted

open Idealize.ShloMosaic

/-- How many of the positions `m, m + 16, m + 32, …` are at most `i`. -/
def cnt (i m : ℕ) : ℕ := if m ≤ i then (i - m) / 16 + 1 else 0

/-- The offset in its page of the key at position `k`. -/
def off (k : Fin 2048) : Fin 16 := ⟨k.val % 16, Nat.mod_lt _ (by norm_num)⟩

/-- Of the 128 positions `16 j + m`, `cnt i m` are at most `i`, for a position `i` below 2048. -/
theorem sum_pages (i : ℕ) (hi : i < 2048) (m : Fin 16) (c : ℝ) :
    ∑ j : Fin 128, (if 16 * j.val + m.val ≤ i then c else 0) = (cnt i m.val : ℝ) * c := by
  rw [Finset.sum_ite, Finset.sum_const_zero, add_zero, Finset.sum_const, nsmul_eq_mul]
  congr 2
  have hm := m.isLt
  have h1 : (Finset.univ.filter fun j : Fin 128 => 16 * j.val + m.val ≤ i).map Fin.valEmbedding = Finset.range (cnt i m.val) := by
    ext a
    simp only [Finset.mem_map, Finset.mem_filter, Finset.mem_univ, true_and, Fin.valEmbedding_apply, Finset.mem_range, cnt]
    constructor
    · rintro ⟨j, hj, rfl⟩
      rw [if_pos (by omega)]
      omega
    · intro h
      split at h
      · exact ⟨⟨a, by omega⟩, by show 16 * a + m.val ≤ i; omega, rfl⟩
      · omega
  rw [← Finset.card_map Fin.valEmbedding, h1, Finset.card_range]

/-- A sum over 2048 positions, page by page: offset first, then page. -/
theorem sum_positions {α : Type} [AddCommMonoid α] (f : Fin 2048 → α) :
    ∑ k : Fin 2048, f k = ∑ m : Fin 16, ∑ j : Fin 128, f ⟨16 * j.val + m.val, by omega⟩ := by
  rw [← Fintype.sum_prod_type']
  refine (Fintype.sum_equiv (⟨fun p => ⟨16 * p.2.val + p.1.val, by omega⟩, fun k => (off k, ⟨k.val / 16, by omega⟩), ?_, ?_⟩ : Fin 16 × Fin 128 ≃ Fin 2048) _ _ fun _ => rfl).symm
  · rintro ⟨m, j⟩
    simp only [off, Prod.mk.injEq, Fin.ext_iff]
    omega
  · intro k
    simp only [off, Fin.ext_iff]
    omega

/-- A finite sum of coerced reals is the coerced sum. -/
theorem coe_sum {ι : Type} (s : Finset ι) (f : ι → ℝ) : ∑ k ∈ s, (f k : EReal) = ((∑ k ∈ s, f k : ℝ) : EReal) := by
  induction s using Finset.cons_induction with
  | empty => rfl
  | cons a s h ih => rw [Finset.sum_cons, Finset.sum_cons, ih, EReal.coe_add]

/-- A sum of nonnegative reals times an extended real is the sum of the products. -/
theorem sum_mul_of_nonneg {ι : Type} (s : Finset ι) (f : ι → ℝ) (hf : ∀ k, 0 ≤ f k) (v : EReal) :
    ∑ k ∈ s, (f k : EReal) * v = ((∑ k ∈ s, f k : ℝ) : EReal) * v := by
  induction s using Finset.cons_induction with
  | empty => simp
  | cons a s h ih =>
    rw [Finset.sum_cons, Finset.sum_cons, ih, EReal.coe_add,
      EReal.right_distrib_of_nonneg (EReal.coe_nonneg.2 (hf a)) (EReal.coe_nonneg.2 (Finset.sum_nonneg fun k _ => hf k))]

/-- A sum of extended reals times a nonnegative real is the sum of the products. -/
theorem sum_mul_coe {ι : Type} (s : Finset ι) (f : ι → EReal) (d : ℝ) (hd : 0 ≤ d) :
    (∑ k ∈ s, f k) * (d : EReal) = ∑ k ∈ s, f k * (d : EReal) := by
  induction s using Finset.cons_induction with
  | empty => simp
  | cons a s h ih =>
    rw [Finset.sum_cons, Finset.sum_cons, EReal.right_distrib_of_nonneg_of_ne_top (EReal.coe_nonneg.2 hd) (EReal.coe_ne_top d), ih]

/-- The score of offset `m` where position `m` may be looked at, −∞ elsewhere. -/
def maskedKey (i : ℕ) (s : Fin 16 → ℝ) (m : Fin 16) : EReal := if m.val ≤ i then (s m : EReal) else ⊥

/-- The score of position `k` where it may be looked at, −∞ elsewhere. -/
def maskedPos (i : ℕ) (s : Fin 16 → ℝ) (k : Fin 2048) : EReal := if k.val ≤ i then (s (off k) : EReal) else ⊥

/-- The fold of `max` from −∞ is the supremum. -/
theorem fold_max_eq_sup {ι : Type} (s : Finset ι) (f : ι → EReal) : s.fold max ⊥ f = s.sup f := rfl

/-- The largest of the 2048 masked scores is the largest of the 16 masked scores. -/
theorem max_eq (i : ℕ) (s : Fin 16 → ℝ) :
    (Finset.univ : Finset (Fin 2048)).fold max ⊥ (maskedPos i s) = (Finset.univ : Finset (Fin 16)).fold max ⊥ (maskedKey i s) := by
  rw [fold_max_eq_sup, fold_max_eq_sup]
  apply le_antisymm
  · refine Finset.sup_le fun k _ => ?_
    by_cases h : k.val ≤ i
    · have e : maskedPos i s k = maskedKey i s (off k) := by
        have h' : (off k).val ≤ i := (Nat.mod_le _ _).trans h
        rw [maskedPos, maskedKey, if_pos h, if_pos h']
      rw [e]
      exact Finset.le_sup (f := maskedKey i s) (Finset.mem_univ _)
    · rw [maskedPos, if_neg h]
      exact bot_le
  · refine Finset.sup_le fun m _ => ?_
    have hm := m.isLt
    have e : maskedKey i s m = maskedPos i s ⟨m.val, by omega⟩ := by
      have : off ⟨m.val, by omega⟩ = m := Fin.ext (Nat.mod_eq_of_lt hm)
      rw [maskedPos, maskedKey, this]
    rw [e]
    exact Finset.le_sup (f := maskedPos i s) (Finset.mem_univ _)

/-- The largest of the 16 masked scores is a real number. -/
theorem max_real (i : ℕ) (s : Fin 16 → ℝ) : ∃ r : ℝ, (Finset.univ : Finset (Fin 16)).fold max ⊥ (maskedKey i s) = (r : EReal) := by
  rw [fold_max_eq_sup]
  have hb : Finset.univ.sup (maskedKey i s) ≠ ⊥ := by
    intro h
    have h0 : maskedKey i s 0 ≤ Finset.univ.sup (maskedKey i s) := Finset.le_sup (f := maskedKey i s) (Finset.mem_univ _)
    rw [h, maskedKey, if_pos (show ((0 : Fin 16) : ℕ) ≤ i from Nat.zero_le i)] at h0
    exact EReal.coe_ne_bot _ (le_bot_iff.1 h0)
  have ht : Finset.univ.sup (maskedKey i s) ≠ ⊤ := by
    refine ((Finset.sup_lt_iff bot_lt_top).2 fun m _ => ?_).ne
    rw [maskedKey]
    split
    · exact EReal.coe_lt_top _
    · exact bot_lt_top
  exact ⟨_, (EReal.coe_toReal ht hb).symm⟩

/-- The exponential of a masked score less a real maximum: a positive real where the position may be looked at, 0 elsewhere. -/
theorem exp_masked (p : Prop) [Decidable p] (a r : ℝ) :
    Ideal.exp ((if p then (a : EReal) else ⊥) - (r : EReal)) = ((if p then Real.exp (a - r) else 0 : ℝ) : EReal) := by
  split
  · rw [← EReal.coe_sub, Ideal.exp_coe]
  · rw [EReal.bot_sub, Ideal.exp_bot, EReal.coe_zero]

/-- The softmax of the 2048 masked scores, weighing the value of each position's offset, is the counted softmax of the 16 masked
    scores: each offset's exponential times the number of positions with that offset, weighing its value, over the sum of the same. -/
theorem softmax_eq (i : ℕ) (hi : i < 2048) (s : Fin 16 → ℝ) (v : Fin 16 → EReal) :
    ∑ k : Fin 2048,
        Ideal.div (Ideal.exp (maskedPos i s k - (Finset.univ : Finset (Fin 2048)).fold max ⊥ (maskedPos i s)))
          (∑ k' : Fin 2048, Ideal.exp (maskedPos i s k' - (Finset.univ : Finset (Fin 2048)).fold max ⊥ (maskedPos i s))) * v (off k)
      = Ideal.div
          (∑ m : Fin 16, ((cnt i m.val : ℝ) : EReal) * Ideal.exp (maskedKey i s m - (Finset.univ : Finset (Fin 16)).fold max ⊥ (maskedKey i s)) * v m)
          (∑ m : Fin 16, ((cnt i m.val : ℝ) : EReal) * Ideal.exp (maskedKey i s m - (Finset.univ : Finset (Fin 16)).fold max ⊥ (maskedKey i s))) := by
  rw [max_eq]
  obtain ⟨r, hr⟩ := max_real i s
  rw [hr]
  have hpos : ∀ k, Ideal.exp (maskedPos i s k - (r : EReal)) = ((if k.val ≤ i then Real.exp (s (off k) - r) else 0 : ℝ) : EReal) :=
    fun k => exp_masked _ _ _
  have hkey : ∀ m : Fin 16, ((cnt i m.val : ℝ) : EReal) * Ideal.exp (maskedKey i s m - (r : EReal)) = ((cnt i m.val * Real.exp (s m - r) : ℝ) : EReal) := by
    intro m
    rw [show Ideal.exp (maskedKey i s m - (r : EReal)) = _ from exp_masked _ _ _, ← EReal.coe_mul]
    congr 1
    split
    · rfl
    · next h => rw [cnt, if_neg h]; simp
  simp only [hpos, hkey]
  rw [coe_sum, coe_sum]
  have hoff : ∀ (m : Fin 16) (j : Fin 128) (h : 16 * j.val + m.val < 2048), off ⟨16 * j.val + m.val, h⟩ = m := by
    intro m j h
    exact Fin.ext (by show (16 * j.val + m.val) % 16 = m.val; omega)
  have hD : (∑ k : Fin 2048, if k.val ≤ i then Real.exp (s (off k) - r) else 0) = ∑ m : Fin 16, (cnt i m.val : ℝ) * Real.exp (s m - r) := by
    rw [sum_positions]
    refine Finset.sum_congr rfl fun m _ => ?_
    simp only [hoff]
    exact sum_pages i hi m _
  rw [hD]
  have hDpos : 0 < ∑ m : Fin 16, (cnt i m.val : ℝ) * Real.exp (s m - r) := by
    refine Finset.sum_pos' (fun m _ => by positivity) ⟨0, Finset.mem_univ _, ?_⟩
    have : 0 < cnt i (0 : Fin 16).val := by
      rw [cnt, if_pos (show ((0 : Fin 16) : ℕ) ≤ i from Nat.zero_le i)]; omega
    positivity
  generalize (∑ m : Fin 16, (cnt i m.val : ℝ) * Real.exp (s m - r)) = D at hDpos ⊢
  rw [Ideal.div_coe hDpos.ne', sum_mul_coe _ _ _ (by positivity), sum_positions]
  refine Finset.sum_congr rfl fun m _ => ?_
  simp only [hoff, Ideal.div_coe hDpos.ne']
  simp only [← EReal.coe_mul]
  rw [sum_mul_of_nonneg _ _ (fun j => by positivity) (v m), mul_right_comm, ← EReal.coe_mul]
  congr 2
  rw [← Finset.sum_mul, sum_pages i hi m]

end Cert.Counted

end
-- ==== Proof.Word.lean ====
/-
  The number of positions at most `p` that fall at one offset of a 16-row page, as the kernel computes it on 32-bit words.
-/
module

public import proofs.«01_k».proof.Proof.Counted
public import Idealize.ShloMosaic.Lib.Pointwise
public import Idealize.ShloMosaic.Lib.Affine
public import Idealize.ShloMosaic.Lib.WordArith
public import Idealize.ShloMosaic.Lib.WordCmp

@[expose] public section

set_option maxRecDepth 16384

noncomputable section

namespace Cert.Word

open Idealize.ShloMosaic Cert.Counted

/-- The sign of a word as the kernel computes it: one where it is positive, less one where it is negative. -/
def sgn (a : BitVec 32) : BitVec 32 :=
  IntOp.subi ((IntOp.cmpi .sgt a 0#32).setWidth 32) ((IntOp.cmpi .slt a 0#32).setWidth 32)

/-- The kernel's floor of a quotient, plus one: the quotient, less one where the signs differ and a remainder is left, plus one. -/
def pages1 (a q g h : BitVec 32) : BitVec 32 :=
  IntOp.addi (Scalar.select (IntOp.andi (IntOp.cmpi .ne g h) (IntOp.cmpi .ne (IntOp.remsi .vector a 16#32) 0#32)) (IntOp.subi q 1#32) q) 1#32

/-- A small word divided by sixteen. -/
theorem quot (n : ℕ) (h : n < 2048) : IntOp.divsi .vector (BitVec.ofNat 32 n) 16#32 = BitVec.ofNat 32 (n / 16) := by
  have hm : (BitVec.ofNat 32 n).msb = false := by rw [BitVec.msb_eq_false_iff_two_mul_lt, BitVec.toNat_ofNat]; omega
  rw [IntOp.divsi, if_neg (IntOp.not_corner_of_pos (by decide)), BitVec.sdiv_eq, hm, show (16#32 : BitVec 32).msb = false from by decide]
  apply BitVec.eq_of_toNat_eq
  show (BitVec.ofNat 32 n / 16#32).toNat = _
  rw [BitVec.toNat_udiv, BitVec.toNat_ofNat, BitVec.toNat_ofNat, BitVec.toNat_ofNat]
  show n % 2 ^ 32 / 16 = n / 16 % 2 ^ 32
  omega

/-- The sign of a small word that is not zero is one, as is the sign of sixteen. -/
theorem sgn_pos (n : ℕ) (h : n < 2048) (h0 : 0 < n) : sgn (BitVec.ofNat 32 n) = 1#32 := by
  have e1 : IntOp.cmpi .sgt (BitVec.ofNat 32 n) 0#32 = 1#1 :=
    IntOp.cmpi_sgt.2 (by rw [WordArith.toInt_ofNat_small n (by omega)]; show (0 : ℤ) < n; omega)
  have e2 : IntOp.cmpi .slt (BitVec.ofNat 32 n) 0#32 = 0#1 := by
    rcases BitVec.eq_zero_or_eq_one (IntOp.cmpi .slt (BitVec.ofNat 32 n) 0#32) with e | e
    · exact e
    · exfalso
      have := IntOp.cmpi_slt.1 e
      rw [WordArith.toInt_ofNat_small n (by omega), show (0#32 : BitVec 32).toInt = 0 from by decide] at this
      omega
  rw [sgn, e1, e2]
  decide

/-- The kernel's count for a small word. -/
theorem pages1_eq (n : ℕ) (h : n < 2048) :
    pages1 (BitVec.ofNat 32 n) (IntOp.divsi .vector (BitVec.ofNat 32 n) 16#32) (sgn (BitVec.ofNat 32 n)) 1#32 = BitVec.ofNat 32 (n / 16 + 1) := by
  have hand : IntOp.andi (IntOp.cmpi .ne (sgn (BitVec.ofNat 32 n)) 1#32) (IntOp.cmpi .ne (IntOp.remsi .vector (BitVec.ofNat 32 n) 16#32) 0#32) = 0#1 := by
    rcases Nat.eq_zero_or_pos n with rfl | h0
    · have : IntOp.remsi .vector (BitVec.ofNat 32 0) 16#32 = 0#32 := (IntOp.remsi_eq_zero_iff .vector (by decide) 16 (by decide) (by decide)).2 (by decide)
      rw [this]
      decide
    · rw [sgn_pos n h h0, show IntOp.cmpi .ne (1#32 : BitVec 32) 1#32 = 0#1 from by decide]
      exact BitVec.zero_and
  rw [pages1, hand, quot n h]
  show BitVec.ofNat 32 (n / 16) + BitVec.ofNat 32 1 = _
  rw [BitVec.ofNat_add]

/-- The count the kernel selects: `cnt` at a position `p` and an offset `j`. -/
theorem count_eq (p j : ℕ) (hp : p < 2048) (hj : j < 16) :
    Scalar.select (IntOp.cmpi .sle (BitVec.ofNat 32 j) (BitVec.ofNat 32 p))
        (pages1 (IntOp.subi (BitVec.ofNat 32 p) (BitVec.ofNat 32 j)) (IntOp.divsi .vector (IntOp.subi (BitVec.ofNat 32 p) (BitVec.ofNat 32 j)) 16#32)
          (sgn (IntOp.subi (BitVec.ofNat 32 p) (BitVec.ofNat 32 j))) 1#32) 0#32
      = BitVec.ofNat 32 (cnt p j) := by
  by_cases h : j ≤ p
  · have e : IntOp.subi (BitVec.ofNat 32 p) (BitVec.ofNat 32 j) = BitVec.ofNat 32 (p - j) := by
      apply BitVec.eq_of_toNat_eq
      show (BitVec.ofNat 32 p - BitVec.ofNat 32 j).toNat = _
      rw [BitVec.toNat_sub, BitVec.toNat_ofNat, BitVec.toNat_ofNat, BitVec.toNat_ofNat]
      omega
    rw [e, pages1_eq (p - j) (by omega), (WordCmp.cmpi_sle_ofNat_eq_one_iff (by omega) (by omega)).2 h, cnt, if_pos h]
    rfl
  · rw [(WordCmp.cmpi_sle_ofNat_eq_zero_iff (by omega) (by omega)).2 (by omega), cnt, if_neg h]
    rfl

/-- The count, converted to a number. -/
theorem toInt_cnt (p j : ℕ) (hp : p < 2048) : ((BitVec.ofNat 32 (cnt p j)).toInt : ℝ) = (cnt p j : ℝ) := by
  have : cnt p j < 2 ^ 31 := by unfold cnt; split <;> omega
  rw [WordArith.toInt_ofNat_small _ this]
  simp

end Cert.Word

end
-- ==== Proof.Payload.lean ====
/-
  What one grid point of the kernel stores, read at an index, in terms of the blocks it loads.
-/
module

public import proofs.«01_k».proof.Proof.Word
public import proofs.«01_k».proof.Proof.Gen.KernelIdeal.Skeleton
public import Idealize.ShloMosaic.Lib.Pipeline.ValueKit

@[expose] public section

set_option maxRecDepth 16384

noncomputable section

namespace Cert.KernelSide

open Idealize.ShloMosaic Idealize.ShloMosaic.TcCoe
open Cert.KernelIdeal Cert.KernelIdeal.Gen Cert.Counted Cert.Word

/-- The counts, as numbers. -/
def counts (v18 : IVec S256x16 1) (v19 v21 v28 v34 : IVec S256x16 32) : FVec Ideal S256x16 .f32 :=
  sitofp .f32 (select v18 (addi (select (andi (cmpi .ne v28 v34) (cmpi .ne (remsi v19 (broadcast S256x16 16#32)) (broadcast S256x16 0#32))) (subi v21 (broadcast S256x16 1#32)) v21) (broadcast S256x16 1#32)) (broadcast S256x16 0#32))

/-- The scores with −∞ at the keys after the query. -/
def maskedK (v12 : FVec Ideal S256x16 .f32) (v18 : IVec S256x16 1) : FVec Ideal S256x16 .f32 :=
  select v18 v12 (broadcast S256x16 (Scalar.ofBits .f32 0xFF800000#32))

/-- Each row's largest entry. -/
def rowMaxK (a : FVec Ideal S256x16 .f32) : FVec Ideal S256 .f32 :=
  multiReduction .maximumf [1] S256 a 0xFF800000#32 reduces_S256x16_S256 (.inl rfl) rfl

/-- One number per row, repeated along the row. -/
def spreadK (r : FVec Ideal S256 .f32) : FVec Ideal S256x16 .f32 :=
  broadcastTo S256x16 (shapeCast S256x1 r shapeCasts_S256_S256x1) broadcasts_S256x1_S256x16

/-- The weights: counts times exponentials. -/
def weights (n a : FVec Ideal S256x16 .f32) : FVec Ideal S256x16 .f32 :=
  mulf n (exp (subf a (spreadK (rowMaxK a))))

/-- The weighted values over the sum of the weights. -/
def average (w : FVec Ideal S256x16 .f32) (v9 : FVec Ideal S16x64 .f32) : FVec Ideal S1x256x64 .f32 :=
  shapeCast S1x256x64 (divf (matmul dot_S256x16_S16x64_S256x64_1_0_0_1_n_n none w v9 (constant S256x64 .f32 0x00000000#32)) (broadcastTo S256x64 (shapeCast S256x1 (multiReduction .add [1] S256 w 0x00000000#32 reduces_S256x16_S256 (.inl rfl) rfl) shapeCasts_S256_S256x1) broadcasts_S256x1_S256x64)) shapeCasts_S256x64_S1x256x64

/-- What is stored is the average with those weights. -/
theorem pay1_eq (v9 : FVec Ideal S16x64 .f32) (v12 : FVec Ideal S256x16 .f32) (v18 : IVec S256x16 1) (v19 v21 v28 v34 : IVec S256x16 32) :
    k0_pay1 (F := Ideal) v9 v12 v18 v19 16#32 v21 v28 v34 = average (weights (counts v18 v19 v21 v28 v34) (maskedK v12 v18)) v9 := rfl

/-- The word of −∞. -/
theorem ofBits_bot : Ideal.ofBits .f32 0xFF800000#32 = ⊥ := by simp [Ideal.ofBits, Ideal.ieee]

/-- The average at an index. -/
theorem average_at (w : FVec Ideal S256x16 .f32) (v9 : FVec Ideal S16x64 .f32) (r : Fin 256) (h : Fin 64) :
    average w v9 (ix3 0 r h) = Ideal.div (∑ m : Fin 16, w (ix2 r m) * v9 (ix2 m h)) (∑ m : Fin 16, w (ix2 r m)) := by
  pointwise [average]

/-- Each row's largest entry is a fold of `max` from −∞. -/
theorem rowMaxK_at (a : FVec Ideal S256x16 .f32) (r : Fin 256) :
    rowMaxK a (ix1 r) = (Finset.univ : Finset (Fin 16)).fold max ⊥ fun m => a (ix2 r m) := by
  pointwise [rowMaxK]
  rw [ofBits_bot]

/-- The number repeated along row `r` is that row's. -/
theorem spreadK_at (v : FVec Ideal S256 .f32) (r : Fin 256) (m : Fin 16) : spreadK v (ix2 r m) = v (ix1 r) := by
  pointwise [spreadK]

/-- A product with an exponential of a difference, at any shape. -/
theorem mul_exp_sub_at {s : Shape} (n a c : FVec Ideal s .f32) (i : s.Idx) : mulf n (exp (subf a c)) i = n i * Ideal.exp (a i - c i) := rfl

/-- A weight at an index. -/
theorem weights_at (n a : FVec Ideal S256x16 .f32) (r : Fin 256) (m : Fin 16) :
    weights n a (ix2 r m) = n (ix2 r m) * Ideal.exp (a (ix2 r m) - (Finset.univ : Finset (Fin 16)).fold max ⊥ fun m => a (ix2 r m)) := by
  unfold weights
  rw [mul_exp_sub_at, spreadK_at, rowMaxK_at]

/-- The position of row `r` of a grid point's tile, as a word. -/
theorem pay5_at (i : grid0.Coords) (r : Fin 256) (m : Fin 16) (hi : (i 1).val < 8) :
    k0_pay5 i (ix2 r m) = BitVec.ofNat 32 ((i 1).val * 256 + r.val) := by
  pointwise [k0_pay5]
  show BitVec.ofNat 32 (i 1).val * BitVec.ofNat 32 256 + BitVec.ofNat 32 r.val = _
  rw [← BitVec.ofNat_mul, ← BitVec.ofNat_add]

/-- A key is kept where its offset is at most the position. -/
theorem pay6_at (i : grid0.Coords) (r : Fin 256) (m : Fin 16) (hi : (i 1).val < 8) :
    k0_pay6 i (ix2 r m) = IntOp.cmpi .sle (BitVec.ofNat 32 m.val) (BitVec.ofNat 32 ((i 1).val * 256 + r.val)) := by
  rw [← pay5_at i r m hi]
  pointwise [k0_pay6]

/-- The distance from a key's offset to the position. -/
theorem pay7_at (i : grid0.Coords) (r : Fin 256) (m : Fin 16) (hi : (i 1).val < 8) :
    k0_pay7 i (ix2 r m) = IntOp.subi (BitVec.ofNat 32 ((i 1).val * 256 + r.val)) (BitVec.ofNat 32 m.val) := by
  rw [← pay5_at i r m hi]
  pointwise [k0_pay7]

/-- The counts at an index. -/
theorem counts_at (i : grid0.Coords) (r : Fin 256) (m : Fin 16) (hi : (i 1).val < 8) :
    counts (k0_pay6 i) (k0_pay7 i) (k0_pay8 i) (k0_pay9 i) k0_pay10 (ix2 r m) = ((cnt ((i 1).val * 256 + r.val) m.val : ℝ) : EReal) := by
  have h := count_eq ((i 1).val * 256 + r.val) m.val (by omega) m.isLt
  rw [← toInt_cnt ((i 1).val * 256 + r.val) m.val (by omega), ← h, ← pay6_at i r m hi, ← pay7_at i r m hi]
  rfl

/-- The masked scores at an index. -/
theorem maskedK_at (v12 : FVec Ideal S256x16 .f32) (i : grid0.Coords) (r : Fin 256) (m : Fin 16) (hi : (i 1).val < 8) :
    maskedK v12 (k0_pay6 i) (ix2 r m) = if m.val ≤ (i 1).val * 256 + r.val then v12 (ix2 r m) else ⊥ := by
  pointwise [maskedK]
  rw [pay6_at i r m hi]
  by_cases h : m.val ≤ (i 1).val * 256 + r.val
  · rw [if_pos h, (WordCmp.cmpi_sle_ofNat_eq_one_iff (by omega) (by omega)).2 h]
    rfl
  · rw [if_neg h, (WordCmp.cmpi_sle_ofNat_eq_zero_iff (by omega) (by omega)).2 (by omega)]
    exact ofBits_bot

/-- The values at an index. -/
theorem pay3_at (v2 : Vec Ideal S1x16x1024 .f32) (v8 : Vec Ideal S64x1024 .f32) (m : Fin 16) (h : Fin 64) :
    k0_pay3 (F := Ideal) v2 v8 (ix2 m h) = ∑ e : Fin 1024, v2 (ix3 0 m e) * v8 (ix2 h e) := by
  pointwise [k0_pay3, k0_pay2]

/-- The scores at an index. -/
theorem pay4_at (v0 : Vec Ideal S1x256x1024 .f32) (v2 : Vec Ideal S1x16x1024 .f32) (v4 v6 : Vec Ideal S64x1024 .f32) (r : Fin 256) (m : Fin 16) :
    k0_pay4 (F := Ideal) v0 v2 v4 v6 (ix2 r m)
      = (∑ d : Fin 64, (∑ e : Fin 1024, v0 (ix3 0 r e) * v4 (ix2 d e)) * ∑ e : Fin 1024, v2 (ix3 0 m e) * v6 (ix2 d e)) * Ideal.ofBits .f32 0x3E000000#32 := by
  pointwise [k0_pay4, k0_pay2]

/-- What a grid point stores, at an index, where the scores are real: the counted softmax. -/
theorem pay1_at (i : grid0.Coords) (hi : (i 1).val < 8) (v9 : FVec Ideal S16x64 .f32) (v12 : FVec Ideal S256x16 .f32) (r : Fin 256) (h : Fin 64)
    (p : ℕ) (hp : p = (i 1).val * 256 + r.val) (s : Fin 16 → ℝ) (hs : ∀ m, v12 (ix2 r m) = (s m : EReal)) (v : Fin 16 → EReal) (hv : ∀ m, v9 (ix2 m h) = v m) :
    k0_pay1 (F := Ideal) v9 v12 (k0_pay6 i) (k0_pay7 i) 16#32 (k0_pay8 i) (k0_pay9 i) k0_pay10 (ix3 0 r h)
      = Ideal.div
          (∑ m : Fin 16, ((cnt p m.val : ℝ) : EReal) * Ideal.exp (maskedKey p s m - (Finset.univ : Finset (Fin 16)).fold max ⊥ (maskedKey p s)) * v m)
          (∑ m : Fin 16, ((cnt p m.val : ℝ) : EReal) * Ideal.exp (maskedKey p s m - (Finset.univ : Finset (Fin 16)).fold max ⊥ (maskedKey p s))) := by
  have hm : (fun m : Fin 16 => maskedK v12 (k0_pay6 i) (ix2 r m)) = maskedKey p s := by
    funext m
    rw [maskedK_at v12 i r m hi, hs, maskedKey, hp]
  have hw : ∀ m : Fin 16, weights (counts (k0_pay6 i) (k0_pay7 i) (k0_pay8 i) (k0_pay9 i) k0_pay10) (maskedK v12 (k0_pay6 i)) (ix2 r m)
      = ((cnt p m.val : ℝ) : EReal) * Ideal.exp (maskedKey p s m - (Finset.univ : Finset (Fin 16)).fold max ⊥ (maskedKey p s)) := by
    intro m
    rw [weights_at, counts_at i r m hi, hm, ← hp, ← congrFun hm m]
  rw [pay1_eq, average_at]
  simp only [hw, hv]

end Cert.KernelSide

end
-- ==== Proof.Cache.lean ====
/-
  The reference's paged cache: the first 16 rows of each request are written to all 128 pages of that request, and the
  pages are then read back as 2048 rows. So row `k` read back is row `k % 16` written.
-/
module

public import proofs.«01_k».proof.Proof.Gen.ReferenceIdeal
public import Idealize.ShloMosaic.Lib.Pointwise
public import Idealize.ShloMosaic.Lib.Routing.OpsSet
public import Idealize.ShloMosaic.Lib.WordCmp

@[expose] public section

set_option maxRecDepth 16384

noncomputable section

namespace Cert.RefSide

open Idealize.ShloMosaic
open Cert.ReferenceIdeal Cert.ReferenceIdeal.Gen

/-- The table of page coordinates the reference writes to and reads from: entry `n` is `(p, n)`, `p` being 0 for keys and 1 for values. -/
def pages (p : BitVec 32) : IVec S384x2 32 :=
  concatenate S384x2 1 [⟨S384x1, (broadcastInDim S384x1 ![0] bcast_S384_S384x1_0 (broadcastInDim S384 ![] bcast_S_S384 (constantI S_ 32 p)))⟩, ⟨S384x1, (broadcastInDim S384x1 ![0] bcast_S384_S384x1_0 (select (cmpi .slt (iotaInDim S384 32 0) (broadcastInDim S384 ![] bcast_S_S384 (constantI S_ 32 0#32))) (addi (iotaInDim S384 32 0) (broadcastInDim S384 ![] bcast_S_S384 (constantI S_ 32 512#32))) (iotaInDim S384 32 0)))⟩] concatenates_S384x1_S384x1_S384x2_d1

/-- What is written: the first 16 rows of each request, once for each of its 128 pages. -/
def firstRows (y : FVec Ideal S3x2048x64 .f32) : FVec Ideal S384x16x64 .f32 :=
  shapeCast _ (broadcastInDim S3x128x16x64 ![0, 1, 2, 3] bcast_S3x1x16x64_S3x128x16x64_0_1_2_3 (broadcastInDim S3x1x16x64 ![0, 2, 3] bcast_S3x16x64_S3x1x16x64_0_2_3 (extractStridedSlice S3x16x64 ![0, 0, 0] y slices_S3x2048x64_S3x16x64_0_0_0))) shapeCasts_S3x128x16x64_S384x16x64

/-- One write to the cache. -/
def write (c : FVec Ideal S2x512x16x64 .f32) (p : BitVec 32) (y : FVec Ideal S3x2048x64 .f32) : FVec Ideal S2x512x16x64 .f32 :=
  Host.scatter scatter_S2x512x16x64_S384x2_S384x16x64_12_01_01_1 (fun _ b => b) c (pages p) (firstRows y)

/-- The cache after both writes, from zeros. -/
def cache (yk yv : FVec Ideal S3x2048x64 .f32) : FVec Ideal S2x512x16x64 .f32 :=
  write (write (broadcastInDim S2x512x16x64 ![] bcast_S_S2x512x16x64 (constant S_ .f32 0x00000000#32)) 0#32 yk) 1#32 yv

/-- What is read back. -/
def fetch (c : FVec Ideal S2x512x16x64 .f32) (p : BitVec 32) : FVec Ideal S3x2048x64 .f32 :=
  shapeCast _ (Host.gather gather_S2x512x16x64_S384x2_S384x16x64_12_01_n_n_01_1_111664 c (pages p)) shapeCasts_S384x16x64_S3x2048x64

/-- A small number, as a word read signed. -/
theorem toInt_small (n : ℕ) (h : n < 2 ^ 31) : (BitVec.ofNat 32 n).toInt = (n : ℤ) := by
  have e : (BitVec.ofNat 32 n).toNat = n := by rw [BitVec.toNat_ofNat, Nat.mod_eq_of_lt (by omega)]
  rw [WordCmp.toInt_eq_toNat_of_lt_half (by rw [e]; exact h), e]

/-- The first coordinate of every entry of the table is `p`. -/
theorem pages_plane (p : BitVec 32) (n : Fin 384) : pages p (ix2 n (0 : Fin 2)) = p := by
  pointwise [pages]

/-- The second coordinate of entry `n` of the table is `n`. -/
theorem pages_page (p : BitVec 32) (n : Fin 384) : pages p (ix2 n (1 : Fin 2)) = BitVec.ofNat 32 n.val := by
  pointwise [pages]
  exact Routing.wrap_of_lt _ _ (by rw [BitVec.toNat_ofNat, Nat.mod_eq_of_lt (by omega)]; omega)

/-- Entry `n` of what is written is the first 16 rows of request `n / 128`. -/
theorem firstRows_at (y : FVec Ideal S3x2048x64 .f32) (n : Fin 384) (r : Fin 16) (h : Fin 64) :
    firstRows y (ix3 n r h) = y (ix3 (⟨n.val / 128, by omega⟩ : Fin 3) (⟨r.val, by omega⟩ : Fin 2048) h) := by
  pointwise [firstRows]

/-- Row `k` of request `b` read back is row `k % 16` of page `128 b + k / 16`. -/
theorem fetch_at (c : FVec Ideal S2x512x16x64 .f32) (p : BitVec 32) (b : Fin 3) (k : Fin 2048) (h : Fin 64) :
    fetch c p (ix3 b k h) = Host.gather gather_S2x512x16x64_S384x2_S384x16x64_12_01_n_n_01_1_111664 c (pages p)
      (ix3 (⟨b.val * 128 + k.val / 16, by omega⟩ : Fin 384) (⟨k.val % 16, by omega⟩ : Fin 16) h) := by
  pointwise [fetch]

/-- The reference's scatter. -/
abbrev sd : ScatterDims S2x512x16x64 S384x2 S384x16x64 := scatter_S2x512x16x64_S384x2_S384x16x64_12_01_01_1

/-- The reference's gather. -/
abbrev gd : GatherDims S2x512x16x64 S384x2 S384x16x64 := gather_S2x512x16x64_S384x2_S384x16x64_12_01_n_n_01_1_111664

/-- The scatter's window starts, on the cache's first axis, at the first word of the update's table entry. -/
theorem start0 (k : S384x16x64.Idx) (idx : IVec S384x2 32) : sd.start k idx 0 = (idx (ix2 (k 0) (0 : Fin 2))).toInt := by
  unfold ScatterDims.start
  rw [dif_pos (by decide)]
  congr 2
  funext b
  match b with
  | ⟨0, _⟩ => rfl
  | ⟨1, _⟩ => rfl

/-- On the second axis it starts at the second word. -/
theorem start1 (k : S384x16x64.Idx) (idx : IVec S384x2 32) : sd.start k idx 1 = (idx (ix2 (k 0) (1 : Fin 2))).toInt := by
  unfold ScatterDims.start
  rw [dif_pos (by decide)]
  congr 2
  funext b
  match b with
  | ⟨0, _⟩ => rfl
  | ⟨1, _⟩ => rfl

/-- On the third axis it starts at 0. -/
theorem start2 (k : S384x16x64.Idx) (idx : IVec S384x2 32) : sd.start k idx 2 = 0 := by
  unfold ScatterDims.start
  rw [dif_neg (by decide)]

/-- On the fourth axis it starts at 0. -/
theorem start3 (k : S384x16x64.Idx) (idx : IVec S384x2 32) : sd.start k idx 3 = 0 := by
  unfold ScatterDims.start
  rw [dif_neg (by decide)]

/-- The scatter's window has no extent on the first axis. -/
theorem window0 (k : S384x16x64.Idx) : sd.window k 0 = 0 := by
  unfold ScatterDims.window
  rw [dif_neg (by decide)]

/-- Nor on the second. -/
theorem window1 (k : S384x16x64.Idx) : sd.window k 1 = 0 := by
  unfold ScatterDims.window
  rw [dif_neg (by decide)]

/-- On the third axis the window's coordinate is the update's second. -/
theorem window2 (k : S384x16x64.Idx) : sd.window k 2 = (k 1).val := by
  unfold ScatterDims.window
  rw [dif_pos (by decide)]
  rfl

/-- On the fourth axis it is the update's third. -/
theorem window3 (k : S384x16x64.Idx) : sd.window k 3 = (k 2).val := by
  unfold ScatterDims.window
  rw [dif_pos (by decide)]
  rfl

/-- Update `(n, r, h)` lands at plane `p`, page `n`, row `r`, column `h` of the cache, and nowhere else. -/
theorem lands (p q : Fin 2) (n : Fin 384) (r : Fin 16) (h : Fin 64) (g : Fin 512) (r' : Fin 16) (h' : Fin 64) :
    sd.resultIdx? (ix3 n r h) (pages (BitVec.ofNat 32 p.val)) = some (ix4 q g r' h') ↔ p = q ∧ n.val = g.val ∧ r = r' ∧ h = h' := by
  have e0 : sd.start (ix3 n r h) (pages (BitVec.ofNat 32 p.val)) 0 = (p.val : ℤ) := by
    rw [start0]
    refine (congrArg BitVec.toInt (pages_plane _ n)).trans (toInt_small _ (by omega))
  have e1 : sd.start (ix3 n r h) (pages (BitVec.ofNat 32 p.val)) 1 = (n.val : ℤ) := by
    rw [start1]
    refine (congrArg BitVec.toInt (pages_page _ n)).trans (toInt_small _ (by omega))
  rw [Routing.resultIdx?_eq_some]
  constructor
  · intro H
    have h0 := H 0
    have h1 := H 1
    have h2 := H 2
    have h3 := H 3
    rw [e0, window0] at h0
    rw [e1, window1] at h1
    rw [start2, window2] at h2
    rw [start3, window3] at h3
    change (p.val : ℤ) + ((0 : ℕ) : ℤ) = (q.val : ℤ) at h0
    change (n.val : ℤ) + ((0 : ℕ) : ℤ) = (g.val : ℤ) at h1
    change 0 + (r.val : ℤ) = (r'.val : ℤ) at h2
    change 0 + (h.val : ℤ) = (h'.val : ℤ) at h3
    refine ⟨Fin.ext ?_, ?_, Fin.ext ?_, Fin.ext ?_⟩ <;> omega
  · rintro ⟨rfl, hn, rfl, rfl⟩ a
    match a with
    | ⟨0, _⟩ =>
      show sd.start _ _ 0 + (sd.window _ 0 : ℤ) = (p.val : ℤ)
      rw [e0, window0]; omega
    | ⟨1, _⟩ =>
      show sd.start _ _ 1 + (sd.window _ 1 : ℤ) = (g.val : ℤ)
      rw [e1, window1]; omega
    | ⟨2, _⟩ =>
      show sd.start _ _ 2 + (sd.window _ 2 : ℤ) = (r.val : ℤ)
      rw [start2, window2]
      show 0 + (r.val : ℤ) = (r.val : ℤ)
      omega
    | ⟨3, _⟩ =>
      show sd.start _ _ 3 + (sd.window _ 3 : ℤ) = (h.val : ℤ)
      rw [start3, window3]
      show 0 + (h.val : ℤ) = (h.val : ℤ)
      omega

/-- After a write to plane `p`, page `n` of that plane holds entry `n` of what was written. -/
theorem write_same (c : FVec Ideal S2x512x16x64 .f32) (p : Fin 2) (y : FVec Ideal S3x2048x64 .f32) (n : Fin 384) (r : Fin 16) (h : Fin 64) :
    write c (BitVec.ofNat 32 p.val) y (ix4 p (⟨n.val, by omega⟩ : Fin 512) r h) = firstRows y (ix3 n r h) := by
  refine Routing.scatter_set_hit sd c _ _ _ _ (fun k hk => ?_) (ix3 n r h) ((lands p p n r h _ r h).2 ⟨rfl, rfl, rfl, rfl⟩)
  rw [eq_ix3 k] at hk ⊢
  obtain ⟨-, h1, h2, h3⟩ := (lands p p (k 0) (k 1) (k 2) _ r h).1 hk
  have h1' : k 0 = n := Fin.ext h1
  rw [h1', h2, h3]

/-- A write to plane `p` leaves the other plane as it was. -/
theorem write_other (c : FVec Ideal S2x512x16x64 .f32) (p q : Fin 2) (hpq : p ≠ q) (y : FVec Ideal S3x2048x64 .f32) (g : Fin 512) (r : Fin 16) (h : Fin 64) :
    write c (BitVec.ofNat 32 p.val) y (ix4 q g r h) = c (ix4 q g r h) := by
  refine Routing.scatter_set_miss sd c _ _ _ fun k hk => hpq ?_
  rw [eq_ix3 k] at hk
  exact ((lands p q (k 0) (k 1) (k 2) _ r h).1 hk).1

/-- Page `n` of plane `p` is what the gather reads at its entry `n`. -/
theorem gather_at (c : FVec Ideal S2x512x16x64 .f32) (p : Fin 2) (n : Fin 384) (r : Fin 16) (h : Fin 64) :
    Host.gather gd c (pages (BitVec.ofNat 32 p.val)) (ix3 n r h) = c (ix4 p (⟨n.val, by omega⟩ : Fin 512) r h) := by
  have h0 := (congrArg BitVec.toInt (pages_plane (BitVec.ofNat 32 p.val) n)).trans (toInt_small _ (by omega))
  have h1 := (congrArg BitVec.toInt (pages_page (BitVec.ofNat 32 p.val) n)).trans (toInt_small _ (by omega))
  show c (gd.operandIdx _ _) = _
  congr 1
  funext a
  apply Fin.ext
  match a with
  | ⟨0, _⟩ =>
    show gd.start _ _ 0 + gd.batchCoord _ 0 + gd.offCoord _ 0 = p.val
    unfold GatherDims.start GatherDims.batchCoord GatherDims.offCoord
    rw [dif_pos (by decide), dif_neg (by decide), dif_neg (by decide)]
    have e : gd.siIdx (ix3 n r h) ⟨gd.startIndexMap.idxOf 0, List.idxOf_lt_length_iff.2 (by decide)⟩ = ix2 n (0 : Fin 2) := by
      funext b
      match b with
      | ⟨0, _⟩ => rfl
      | ⟨1, _⟩ => rfl
    rw [e, h0]
    show min (p.val : ℤ).toNat (2 - 1) + 0 + 0 = p.val
    omega
  | ⟨1, _⟩ =>
    show gd.start _ _ 1 + gd.batchCoord _ 1 + gd.offCoord _ 1 = n.val
    unfold GatherDims.start GatherDims.batchCoord GatherDims.offCoord
    rw [dif_pos (by decide), dif_neg (by decide), dif_neg (by decide)]
    have e : gd.siIdx (ix3 n r h) ⟨gd.startIndexMap.idxOf 1, List.idxOf_lt_length_iff.2 (by decide)⟩ = ix2 n (1 : Fin 2) := by
      funext b
      match b with
      | ⟨0, _⟩ => rfl
      | ⟨1, _⟩ => rfl
    rw [e, h1]
    show min (n.val : ℤ).toNat (512 - 1) + 0 + 0 = n.val
    omega
  | ⟨2, _⟩ =>
    show gd.start _ _ 2 + gd.batchCoord _ 2 + gd.offCoord _ 2 = r.val
    unfold GatherDims.start GatherDims.batchCoord GatherDims.offCoord
    rw [dif_neg (by decide), dif_neg (by decide), dif_pos (by decide)]
    simp
  | ⟨3, _⟩ =>
    show gd.start _ _ 3 + gd.batchCoord _ 3 + gd.offCoord _ 3 = h.val
    unfold GatherDims.start GatherDims.batchCoord GatherDims.offCoord
    rw [dif_neg (by decide), dif_neg (by decide), dif_pos (by decide)]
    simp

/-- Row `k` of the keys read back is row `k % 16` of the keys. -/
theorem fetch_keys (yk yv : FVec Ideal S3x2048x64 .f32) (b : Fin 3) (k : Fin 2048) (h : Fin 64) :
    fetch (cache yk yv) 0#32 (ix3 b k h) = yk (ix3 b (⟨k.val % 16, by omega⟩ : Fin 2048) h) := by
  refine (fetch_at _ _ b k h).trans ((gather_at _ 0 _ _ h).trans ((write_other _ 1 0 (by decide) yv _ _ h).trans
    ((write_same _ 0 yk _ _ h).trans ((firstRows_at yk _ _ h).trans ?_))))
  refine congrArg (fun a : Fin 3 => yk (ix3 a (⟨k.val % 16, by omega⟩ : Fin 2048) h)) (Fin.ext ?_)
  show (b.val * 128 + k.val / 16) / 128 = b.val
  omega

/-- Row `k` of the values read back is row `k % 16` of the values. -/
theorem fetch_values (yk yv : FVec Ideal S3x2048x64 .f32) (b : Fin 3) (k : Fin 2048) (h : Fin 64) :
    fetch (cache yk yv) 1#32 (ix3 b k h) = yv (ix3 b (⟨k.val % 16, by omega⟩ : Fin 2048) h) := by
  refine (fetch_at _ _ b k h).trans ((gather_at _ 1 _ _ h).trans
    ((write_same _ 1 yv _ _ h).trans ((firstRows_at yv _ _ h).trans ?_)))
  refine congrArg (fun a : Fin 3 => yv (ix3 a (⟨k.val % 16, by omega⟩ : Fin 2048) h)) (Fin.ext ?_)
  show (b.val * 128 + k.val / 16) / 128 = b.val
  omega

end Cert.RefSide

end
-- ==== Proof.Reference.lean ====
/-
  The reference's result, read at an index: a softmax over 2048 masked scores, in terms of the projections' entries.
-/
module

public import proofs.«01_k».proof.Proof.Cache
public import proofs.«01_k».proof.Proof.Counted
public import proofs.«01_k».proof.Proof.Gen.ReferenceIdeal.Run

@[expose] public section

set_option maxRecDepth 16384

noncomputable section

namespace Cert.RefSide

open Idealize.ShloMosaic Idealize.ShloMosaic.TcCoe
open Cert.ReferenceIdeal Cert.ReferenceIdeal.Gen Cert.Counted

/-- A projection: `x @ W.T`. -/
def proj (x : FVec Ideal S3x2048x1024 .f32) (w : FVec Ideal S64x1024 .f32) : FVec Ideal S3x2048x64 .f32 :=
  Host.dotGeneral dot_S3x2048x1024_S1024x64_S3x2048x64_2_0_01_1_n_n none x (transpose S1024x64 [1, 0] w transposes_S64x1024_S1024x64_1_0)

/-- The scores with the causal mask applied. -/
def masked (q k : FVec Ideal S3x2048x64 .f32) : FVec Ideal S3x2048x2048 .f32 :=
  select (broadcastInDim S3x2048x2048 ![1, 2] bcast_S2048x2048_S3x2048x2048_1_2 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))) (mulf (Host.dotGeneral dot_S3x2048x64_S3x2048x64_S3x2048x2048_2_2_1_1_0_0 none q k) (broadcastInDim S3x2048x2048 ![] bcast_S_S3x2048x2048 (constant S_ .f32 0x3E000000#32))) (broadcastInDim S3x2048x2048 ![] bcast_S_S3x2048x2048 (id (constant S_ .f32 0xFF800000#32)))

/-- Each row's largest masked score. -/
def rowMax (a : FVec Ideal S3x2048x2048 .f32) : FVec Ideal S3x2048 .f32 :=
  Host.reduce FloatOps.maximumf a (constant S_ .f32 0xFF800000#32) reducesTo_S3x2048x2048_S3x2048_d2 h_S_

/-- One number per row, no less than −∞, repeated along the row. -/
def spread (r : FVec Ideal S3x2048 .f32) : FVec Ideal S3x2048x2048 .f32 :=
  broadcastInDim S3x2048x2048 ![0, 1, 2] bcast_S3x2048x1_S3x2048x2048_0_1_2 (broadcastInDim S3x2048x1 ![0, 1] bcast_S3x2048_S3x2048x1_0_1 (maximumf (broadcastInDim S3x2048 ![] bcast_S_S3x2048 (constant S_ .f32 0xFF800000#32)) r))

/-- The exponentials of the masked scores less each row's largest. -/
def exps (a : FVec Ideal S3x2048x2048 .f32) : FVec Ideal S3x2048x2048 .f32 :=
  Host.exp (subf a (spread (rowMax a)))

/-- The softmax's weights times the values. -/
def weigh (e : FVec Ideal S3x2048x2048 .f32) (v : FVec Ideal S3x2048x64 .f32) : FVec Ideal S3x2048x64 .f32 :=
  Host.dotGeneral dot_S3x2048x2048_S3x2048x64_S3x2048x64_2_1_1_2_0_0 none (Host.divf e (broadcastInDim S3x2048x2048 ![0, 1, 2] bcast_S3x2048x1_S3x2048x2048_0_1_2 (broadcastInDim S3x2048x1 ![0, 1] bcast_S3x2048_S3x2048x1_0_1 (Host.reduceAdd e (constant S_ .f32 0x00000000#32) reducesTo_S3x2048x2048_S3x2048_d2 h_S_)))) v

/-- The reference's result as a function of its four arguments. -/
def out (x : FVec Ideal S3x2048x1024 .f32) (wq wk wv : FVec Ideal S64x1024 .f32) : FVec Ideal S3x2048x64 .f32 :=
  weigh (exps (masked (proj x wq) (fetch (cache (proj x wk) (proj x wv)) 0#32))) (fetch (cache (proj x wk) (proj x wv)) 1#32)

/-- What the reference's run leaves is that function of the arguments. -/
theorem res_eq (m : (ℓ : Loc nD τ sig) → Buf (Elt Ideal) ℓ) (c : Dev nD) :
    Cert.ReferenceIdeal.Value.res_out0 (F := Ideal) m c
      = out (m ((c : Thread nD τ).loc main_arg0)) (m ((c : Thread nD τ).loc main_arg1)) (m ((c : Thread nD τ).loc main_arg2)) (m ((c : Thread nD τ).loc main_arg3)) := rfl

/-- A projection's entry. -/
theorem proj_at (x : FVec Ideal S3x2048x1024 .f32) (w : FVec Ideal S64x1024 .f32) (b : Fin 3) (i : Fin 2048) (h : Fin 64) :
    proj x w (ix3 b i h) = ∑ e : Fin 1024, x (ix3 b i e) * w (ix2 h e) := by
  pointwise [proj]

/-- The word of −∞. -/
theorem ofBits_bot : Ideal.ofBits .f32 0xFF800000#32 = ⊥ := by simp [Ideal.ofBits, Ideal.ieee]

/-- A masked score: the score where the key's position is at most the query's, −∞ elsewhere. -/
theorem masked_at (q k : FVec Ideal S3x2048x64 .f32) (b : Fin 3) (i j : Fin 2048) :
    masked q k (ix3 b i j) = if j.val ≤ i.val then (∑ d : Fin 64, q (ix3 b i d) * k (ix3 b j d)) * Ideal.ofBits .f32 0x3E000000#32 else ⊥ := by
  pointwise [masked]
  have e : IntOp.addi (BitVec.ofNat 32 i.val) 0#32 = BitVec.ofNat 32 i.val := BitVec.add_zero _
  have hz : id (constant (F := Ideal) S_ FTy.f32 0xFF800000#32) ix0 = (⊥ : EReal) := ofBits_bot
  rw [e, hz]
  by_cases h : j.val ≤ i.val
  · rw [if_pos h, (WordCmp.cmpi_sge_ofNat_eq_one_iff (by omega) (by omega)).2 h]
    rfl
  · rw [if_neg h, (WordCmp.cmpi_sge_ofNat_eq_zero_iff (by omega) (by omega)).2 (by omega)]
    rfl

/-- A maximum along the last of three axes, at any extents. -/
theorem reduce_max_last {n0 n1 n2 : ℕ} (v : FVec Ideal ⟨3, ![n0, n1, n2]⟩ .f32) (c : FVec Ideal S_ .f32)
    (h : (⟨3, ![n0, n1, n2]⟩ : Shape).ReducesTo [2] ⟨2, ![n0, n1]⟩) (hu : 0 < S_.numel) (a : Fin n0) (b : Fin n1) :
    Host.reduce FloatOps.maximumf v c h hu (ix2 a b) = (Finset.univ : Finset (Fin n2)).fold max (c (Shape.Idx.first hu)) fun k => v (ix3 a b k) := by
  simp only [pointwise]

/-- Each row's largest masked score is a fold of `max` from −∞. -/
theorem rowMax_at (a : FVec Ideal S3x2048x2048 .f32) (b : Fin 3) (i : Fin 2048) :
    rowMax a (ix2 b i) = (Finset.univ : Finset (Fin 2048)).fold max ⊥ fun k => a (ix3 b i k) := by
  unfold rowMax
  rw [reduce_max_last]
  exact congrArg (fun z : EReal => (Finset.univ : Finset (Fin 2048)).fold max z fun k => a (ix3 b i k)) ofBits_bot

/-- The number repeated along row `(b, i)` is that row's. -/
theorem spread_at (r : FVec Ideal S3x2048 .f32) (b : Fin 3) (i j : Fin 2048) : spread r (ix3 b i j) = r (ix2 b i) := by
  pointwise [spread]
  rw [ofBits_bot]
  exact max_eq_right bot_le

/-- An exponential of a difference, at any shape. -/
theorem exp_sub_at {s : Shape} (a c : FVec Ideal s .f32) (i : s.Idx) : Host.exp (subf a c) i = Ideal.exp (a i - c i) := rfl

/-- An exponential, in terms of the masked scores of its row. -/
theorem exps_at (a : FVec Ideal S3x2048x2048 .f32) (b : Fin 3) (i j : Fin 2048) :
    exps a (ix3 b i j) = Ideal.exp (a (ix3 b i j) - (Finset.univ : Finset (Fin 2048)).fold max ⊥ fun k => a (ix3 b i k)) := by
  unfold exps
  rw [exp_sub_at, spread_at, rowMax_at]

/-- A result's entry: the row's exponentials over their sum, weighing the values. -/
theorem weigh_at (e : FVec Ideal S3x2048x2048 .f32) (v : FVec Ideal S3x2048x64 .f32) (b : Fin 3) (i : Fin 2048) (h : Fin 64) :
    weigh e v (ix3 b i h) = ∑ k : Fin 2048, Ideal.div (e (ix3 b i k)) (∑ k' : Fin 2048, e (ix3 b i k')) * v (ix3 b k h) := by
  pointwise [weigh]

end Cert.RefSide

end
-- ==== Proof.ReferenceValue.lean ====
/-
  The reference's result where the scores are real numbers: the softmax over 2048 keys is the counted softmax over the 16 keys.
-/
module

public import proofs.«01_k».proof.Proof.Reference

@[expose] public section

set_option maxRecDepth 16384

noncomputable section

namespace Cert.RefSide

open Idealize.ShloMosaic Idealize.ShloMosaic.TcCoe
open Cert.ReferenceIdeal Cert.ReferenceIdeal.Gen Cert.Counted

/-- The score of query `i` against key offset `m`, from the projections' entries. -/
def score (x : FVec Ideal S3x2048x1024 .f32) (wq wk : FVec Ideal S64x1024 .f32) (b : Fin 3) (i : Fin 2048) (m : Fin 16) : EReal :=
  (∑ d : Fin 64, (∑ e : Fin 1024, x (ix3 b i e) * wq (ix2 d e)) * ∑ e : Fin 1024, x (ix3 b (⟨m.val, by omega⟩ : Fin 2048) e) * wk (ix2 d e))
    * Ideal.ofBits .f32 0x3E000000#32

/-- The value of key offset `m`. -/
def value (x : FVec Ideal S3x2048x1024 .f32) (wv : FVec Ideal S64x1024 .f32) (b : Fin 3) (h : Fin 64) (m : Fin 16) : EReal :=
  ∑ e : Fin 1024, x (ix3 b (⟨m.val, by omega⟩ : Fin 2048) e) * wv (ix2 h e)

/-- The reference's result where the scores are real: the counted softmax of the 16 keys. -/
theorem out_at (x : FVec Ideal S3x2048x1024 .f32) (wq wk wv : FVec Ideal S64x1024 .f32) (b : Fin 3) (i : Fin 2048) (h : Fin 64)
    (s : Fin 16 → ℝ) (hs : ∀ m, score x wq wk b i m = (s m : EReal)) :
    out x wq wk wv (ix3 b i h)
      = Ideal.div
          (∑ m : Fin 16, ((cnt i.val m.val : ℝ) : EReal) * Ideal.exp (maskedKey i.val s m - (Finset.univ : Finset (Fin 16)).fold max ⊥ (maskedKey i.val s)) * value x wv b h m)
          (∑ m : Fin 16, ((cnt i.val m.val : ℝ) : EReal) * Ideal.exp (maskedKey i.val s m - (Finset.univ : Finset (Fin 16)).fold max ⊥ (maskedKey i.val s))) := by
  rw [← softmax_eq i.val i.isLt s (value x wv b h)]
  have hm : ∀ k : Fin 2048, masked (proj x wq) (fetch (cache (proj x wk) (proj x wv)) 0#32) (ix3 b i k) = maskedPos i.val s k := by
    intro k
    rw [masked_at, maskedPos]
    split
    · rw [← hs]
      simp only [fetch_keys, proj_at]
      rfl
    · rfl
  have he : ∀ k : Fin 2048, exps (masked (proj x wq) (fetch (cache (proj x wk) (proj x wv)) 0#32)) (ix3 b i k)
      = Ideal.exp (maskedPos i.val s k - (Finset.univ : Finset (Fin 2048)).fold max ⊥ (maskedPos i.val s)) := by
    intro k
    rw [exps_at]
    simp only [hm]
  rw [out, weigh_at]
  simp only [he, fetch_values, proj_at]
  rfl

end Cert.RefSide

end
-- ==== Proof.Final.lean ====
/-
  The kernel's output array after the run is the reference's function of the arguments.
-/
module

public import proofs.«01_k».proof.Proof.Payload
public import proofs.«01_k».proof.Proof.ReferenceValue
public import proofs.«01_k».proof.Proof.Gen.KernelIdeal.Value
public import Idealize.ShloMosaic.Lib.Claim

@[expose] public section

set_option maxRecDepth 16384

noncomputable section

namespace Cert.KernelSide

open Idealize.ShloMosaic Idealize.ShloMosaic.TcCoe Idealize.SL.Sem
open Cert.KernelIdeal Cert.KernelIdeal.Gen Cert.Counted
open Idealize.ShloMosaic.Pipeline (Dat)

variable (m : (ℓ : Loc nD τ sig) → Buf (Elt Ideal) ℓ) (c : Dev nD)

/-- Which block of each array a grid point holds. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![t.val / 8, t.val % 8, 0] :=
  (by decide +kernel : ∀ t : Fin grid0.N, _)

/-- A grid point's second coordinate. -/
theorem coord1 : ∀ t : Fin cfg0.N, ((grid0.coords t) 1).val = t.val % 8 := (by decide +kernel : ∀ t : Fin grid0.N, _)

/-- The argument x. -/
abbrev X : Vec Ideal S3x2048x1024 .f32 := m ((c : Thread nD τ).loc main_arg0)
/-- The argument Wq. -/
abbrev WQ : Vec Ideal S64x1024 .f32 := m ((c : Thread nD τ).loc main_arg1)
/-- The argument Wk. -/
abbrev WK : Vec Ideal S64x1024 .f32 := m ((c : Thread nD τ).loc main_arg2)
/-- The argument Wv. -/
abbrev WV : Vec Ideal S64x1024 .f32 := m ((c : Thread nD τ).loc main_arg3)

/-- The first sixteen rows of a batch, as the second window holds them. -/
theorem rows_at (t : Fin cfg0.N) (b : Fin 3) (j : Fin 16) (e : Fin 1024) (hb : b.val = t.val / 8) :
    V m c main_call0_v0 ((win0_1.blk t).view.emb (ix3 0 j e)) = X m c (ix3 b (⟨j.val, by omega⟩ : Fin 2048) e) := by
  have he : (win0_1.blk t).view.emb (ix3 0 j e) = ix3 b j e := by blk_ext [idx t]
  rw [he]
  entry_read
  show extractStridedSlice S3x16x1024 ![0, 0, 0] (X m c) slices_S3x2048x1024_S3x16x1024_0_0_0 (ix3 b j e) = _
  pointwise

/-- A grid point's scores are those of its batch and of its tile's positions. -/
theorem score_at (t : Fin cfg0.N) (b : Fin 3) (i : Fin 2048) (r : Fin 256) (j : Fin 16) (hb : b.val = t.val / 8) (hi : i.val = t.val % 8 * 256 + r.val) :
    k0_pay4 (F := Ideal) (iblk m c 0 t) (iblk m c 1 t) (iblk m c 2 t) (iblk m c 3 t) (ix2 r j) = Cert.RefSide.score (X m c) (WQ m c) (WK m c) b i j := by
  rw [pay4_at, Cert.RefSide.score]
  blk_point [iblk, V, idx t]
  exact rows_at m c t b j e hb

/-- A grid point's values are those of its batch. -/
theorem value_at (t : Fin cfg0.N) (b : Fin 3) (j : Fin 16) (h : Fin 64) (hb : b.val = t.val / 8) :
    k0_pay3 (F := Ideal) (iblk m c 1 t) (iblk m c 4 t) (ix2 j h) = Cert.RefSide.value (X m c) (WV m c) b h j := by
  rw [pay3_at, Cert.RefSide.value]
  blk_point [iblk, V, idx t]
  exact rows_at m c t b j e hb

/-- What a grid point stores is the reference's result at the place it is written to, where the scores are real. -/
theorem point (hs : ∀ b i, ∃ s : Fin 16 → ℝ, ∀ j, Cert.RefSide.score (X m c) (WQ m c) (WK m c) b i j = (s j : EReal))
    (t : Fin cfg0.N) (r : Fin 256) (h : Fin 64) (b : Fin 3) (i : Fin 2048) (hb : b.val = t.val / 8) (hi : i.val = t.val % 8 * 256 + r.val) :
    k0_pay1 (F := Ideal) (k0_pay3 (iblk m c 1 t) (iblk m c 4 t)) (k0_pay4 (iblk m c 0 t) (iblk m c 1 t) (iblk m c 2 t) (iblk m c 3 t))
        (k0_pay6 (grid0.coords t)) (k0_pay7 (grid0.coords t)) 16#32 (k0_pay8 (grid0.coords t)) (k0_pay9 (grid0.coords t)) k0_pay10 (ix3 0 r h)
      = Cert.RefSide.out (X m c) (WQ m c) (WK m c) (WV m c) (ix3 b i h) := by
  obtain ⟨s, e⟩ := hs b i
  refine (pay1_at (grid0.coords t) (by rw [coord1]; omega) _ _ r h i.val (by rw [coord1, hi]) s (fun j => (score_at m c t b i r j hb hi).trans (e j)) _
    (fun j => value_at m c t b j h hb)).trans ?_
  exact (Cert.RefSide.out_at (X m c) (WQ m c) (WK m c) (WV m c) b i h s e).symm

/-- The output array after the run is the reference's function of the arguments, where the scores are real. -/
theorem final (hs : ∀ b i, ∃ s : Fin 16 → ℝ, ∀ j, Cert.RefSide.score (X m c) (WQ m c) (WK m c) b i j = (s j : EReal)) :
    (dats m 0 c).arrAt 5 cfg0.N = Cert.RefSide.out (X m c) (WQ m c) (WK m c) (WV m c) := by
  refine (dats m 0 c).arrAt_eq_of_covers 5 _ (by decide +kernel) fun t _ y => ?_
  blk_simp
  rw [after0_5]
  frame_out
  have ht : t.val < 24 := t.isLt
  obtain ⟨a, r, h, rfl⟩ : ∃ (a : Fin 1) (r : Fin 256) (h : Fin 64), y = ix3 a r h := by
    idx_vars y
    exact ⟨_, _, _, rfl⟩
  obtain rfl : a = 0 := Subsingleton.elim _ _
  refine (point m c hs t r h ⟨t.val / 8, by omega⟩ ⟨t.val % 8 * 256 + r.val, by omega⟩ rfl rfl).trans ?_
  refine congrArg (Cert.RefSide.out (X m c) (WQ m c) (WK m c) (WV m c)) ?_
  blk_ext [idx t]

end Cert.KernelSide

end
-- ==== Proof.Finite.lean ====
/-
  The precondition read back: the entries of x, Wq and Wk are real numbers, and so is every score.
-/
module

public import proofs.«01_k».proof.Pre_finite_x_wq_wk
public import proofs.«01_k».proof.Proof.ReferenceValue
public import Idealize.ShloMosaic.Lib.ReduceAll

@[expose] public section

set_option maxRecDepth 16384

noncomputable section

namespace Cert.Finite

open Idealize.ShloMosaic

/-- The shape relations that the precondition's print states. -/
theorem facts : Cert.Pre_finite_x_wq_wk.Facts where
  bcast_S_S3x2048x1024 := by decide
  reducesTo_S3x2048x1024_S_d0_1_2 := by decide
  h_S_ := by decide
  bcast_S_S64x1024 := by decide
  reducesTo_S64x1024_S_d0_1 := by decide

/-- The word of +∞. -/
theorem ofBits_top : Ideal.ofBits .f32 0x7F800000#32 = ⊤ := by simp [Ideal.ofBits, Ideal.ieee]

/-- A number whose absolute value is less than +∞ is real. -/
theorem real_of_lt (x : EReal) (h : Ideal.cmp .olt (max x (-x)) (Ideal.ofBits .f32 0x7F800000#32) = 1#1) : ∃ r : ℝ, x = (r : EReal) := by
  rw [ofBits_top] at h
  have hlt : max x (-x) < ⊤ := by
    by_contra hn
    rw [Ideal.cmp, decide_eq_false hn] at h
    exact absurd h (by decide)
  induction x using EReal.rec with
  | bot => exact absurd hlt (by simp)
  | top => exact absurd hlt (by simp)
  | coe r => exact ⟨r, rfl⟩

/-- The precondition gives: x, Wq and Wk hold real numbers. -/
theorem real_of_pre [hF : Cert.Pre_finite_x_wq_wk.Facts] (x : FVec Ideal Cert.Pre_finite_x_wq_wk.S3x2048x1024 .f32) (wq wk wv : FVec Ideal Cert.Pre_finite_x_wq_wk.S64x1024 .f32)
    (h : Cert.Pre_finite_x_wq_wk.fn (F := Ideal) x wq wk wv = fun _ => 1#1) :
    (∀ i, ∃ r : ℝ, x i = (r : EReal)) ∧ (∀ i, ∃ r : ℝ, wq i = (r : EReal)) ∧ (∀ i, ∃ r : ℝ, wk i = (r : EReal)) := by
  have e := congrFun h ix0
  dsimp only [Cert.Pre_finite_x_wq_wk.fn] at e
  obtain ⟨e1, e3⟩ := IntOp.andi_eq_one.1 e
  obtain ⟨e1, e2⟩ := IntOp.andi_eq_one.1 e1
  haveI : Subsingleton Cert.Pre_finite_x_wq_wk.S_.Idx := ⟨fun a b => funext fun k => k.elim0⟩
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

/-- The scale is a real number. -/
theorem scale_real : ∃ r : ℝ, Ideal.ofBits .f32 0x3E000000#32 = (r : EReal) := ⟨_, rfl⟩

/-- A sum of products of real numbers is real. -/
theorem dot_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [← Cert.Counted.coe_sum]
  exact Finset.sum_congr rfl fun k _ => by rw [ha, hb, EReal.coe_mul]

/-- Where x, Wq and Wk hold real numbers, so do the scores. -/
theorem score_real (x : FVec Ideal Cert.ReferenceIdeal.S3x2048x1024 .f32) (wq wk : FVec Ideal Cert.ReferenceIdeal.S64x1024 .f32)
    (hx : ∀ i, ∃ r : ℝ, x i = (r : EReal)) (hq : ∀ i, ∃ r : ℝ, wq i = (r : EReal)) (hk : ∀ i, ∃ r : ℝ, wk i = (r : EReal)) (b : Fin 3) (i : Fin 2048) :
    ∃ s : Fin 16 → ℝ, ∀ m, Cert.RefSide.score x wq wk b i m = (s m : EReal) := by
  suffices h : ∀ m, ∃ r : ℝ, Cert.RefSide.score x wq wk b i m = (r : EReal) from ⟨fun m => (h m).choose, fun m => (h m).choose_spec⟩
  intro m
  obtain ⟨z, hz⟩ := scale_real
  obtain ⟨d, hd⟩ := dot_real (fun d : Fin 64 => ∑ e : Fin 1024, x (ix3 b i e) * wq (ix2 d e))
    (fun d : Fin 64 => ∑ e : Fin 1024, x (ix3 b (⟨m.val, by omega⟩ : Fin 2048) e) * wk (ix2 d e))
    (fun d => dot_real _ _ (fun e => hx _) fun e => hq _) (fun d => dot_real _ _ (fun e => hx _) fun e => hk _)
  refine ⟨d * z, ?_⟩
  rw [Cert.RefSide.score, hd, hz, EReal.coe_mul]

end Cert.Finite

end
-- ==== Proof.lean ====
/-
  The claims proved: each program runs, leaves its arguments unchanged and its semaphores at zero; the kernel is its own
  idealized program; and where x, Wq and Wk are finite, the kernel and the reference leave the same array.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Final
public import proofs.«01_k».proof.Proof.Finite
public import Idealize.ShloMosaic.Lib.Quiescent

@[expose] public section

noncomputable section

namespace Cert.Proof

open Idealize.ShloMosaic Idealize.SL.Sem

/-- The reference runs from any memory, leaves its arguments unchanged, and ends with its semaphores at zero. -/
theorem reference_frame : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Where x, Wq and Wk are finite, the kernel's output array is the reference's. -/
theorem same : @Cert.algebraic_KernelIdeal_ReferenceIdeal_pre_finite_x_wq_wk Cert.KernelIdeal.Gen.facts Cert.ReferenceIdeal.Gen.facts Cert.Finite.facts := by
  intro m g m' g' hp hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨hx, hq, hk⟩ := Cert.Finite.real_of_pre (hF := Cert.Finite.facts) _ _ _ _ (hp c)
  obtain ⟨e0, e1, e2, e3⟩ := hargs c
  refine Eq.trans ?_ (Cert.KernelSide.final m c (Cert.Finite.score_real _ _ _ hx hq hk)).symm
  refine (Cert.RefSide.res_eq m' c).trans ?_
  rw [e0, e1, e2, e3]

/-- Every claim, with the shape relations the programs state. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, same⟩

end Cert.Proof

end
